-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200x32 : Shape := ⟨3, ![4096, 200, 32]⟩
abbrev S200x32 : Shape := ⟨2, ![200, 32]⟩
abbrev S32x32 : Shape := ⟨2, ![32, 32]⟩
abbrev S32 : Shape := ⟨1, ![32]⟩
abbrev S200x32x4096 : Shape := ⟨3, ![200, 32, 4096]⟩
abbrev S1x32 : Shape := ⟨2, ![1, 32]⟩
abbrev S25x32x4096 : Shape := ⟨3, ![25, 32, 4096]⟩
abbrev S1x32x4096 : Shape := ⟨3, ![1, 32, 4096]⟩
abbrev S32x4096 : Shape := ⟨2, ![32, 4096]⟩
abbrev S32x1 : Shape := ⟨2, ![32, 1]⟩

abbrev nBuf : Space → Nat
  | .hbm => 11
  | .vmem => 6
  | .smem => 0
  | _ => 0

abbrev bufTy : (tb : Table) → Fin (tcTables nBuf tb) → BufTy
  | .hbm, ⟨0, _⟩ => ⟨S4096x200x32, .f32⟩
  | .hbm, ⟨1, _⟩ => ⟨S200x32, .f32⟩
  | .hbm, ⟨2, _⟩ => ⟨S32x32, .f32⟩
  | .hbm, ⟨3, _⟩ => ⟨S32, .f32⟩
  | .hbm, ⟨4, _⟩ => ⟨S200x32x4096, .f32⟩
  | .hbm, ⟨5, _⟩ => ⟨S1x32, .f32⟩
  | .hbm, ⟨6, _⟩ => ⟨S200x32, .f32⟩
  | .hbm, ⟨7, _⟩ => ⟨S200x32, .f32⟩
  | .hbm, ⟨8, _⟩ => ⟨S32x32, .f32⟩
  | .hbm, ⟨9, _⟩ => ⟨S200x32x4096, .f32⟩
  | .hbm, ⟨10, _⟩ => ⟨S4096x200x32, .f32⟩
  | .local _ .vmem, ⟨0, _⟩ => ⟨S25x32x4096, .f32⟩
  | .local _ .vmem, ⟨1, _⟩ => ⟨S25x32x4096, .f32⟩
  | .local _ .vmem, ⟨2, _⟩ => ⟨S200x32, .f32⟩
  | .local _ .vmem, ⟨3, _⟩ => ⟨S32x32, .f32⟩
  | .local _ .vmem, ⟨4, _⟩ => ⟨S25x32x4096, .f32⟩
  | .local _ .vmem, ⟨5, _⟩ => ⟨S25x32x4096, .f32⟩
  | _, _ => ⟨S4096x200x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c25_i32 : BitVec 32 := 25#32
  let v2 : BitVec 32 := Scalar.muli arg0 c25_i32
  let v6 : BitVec 32 := Scalar.addi v2 c0_i32
  let v7 : Index := Scalar.indexCast v6
  let c0_4 : Index := 0#32
  ![v7.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x200x32 : Shape := ⟨3, ![4096, 200, 32]⟩
abbrev S200x32 : Shape := ⟨2, ![200, 32]⟩
abbrev S32x32 : Shape := ⟨2, ![32, 32]⟩
abbrev S32 : Shape := ⟨1, ![32]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x1x32 : Shape := ⟨3, ![1, 1, 32]⟩
abbrev S1x200x32 : Shape := ⟨3, ![1, 200, 32]⟩

abbrev nBuf : Space → Nat
  | .hbm => 41
  | .vmem => 0
  | .smem => 0
  | _ => 0

abbrev bufTy : (tb : Table) → Fin (tcTables nBuf tb) → BufTy
  | .hbm, ⟨0, _⟩ => ⟨S4096x200x32, .f32⟩
  | .hbm, ⟨1, _⟩ => ⟨S200x32, .f32⟩
  | .hbm, ⟨2, _⟩ => ⟨S32x32, .f32⟩
  | .hbm, ⟨3, _⟩ => ⟨S32, .f32⟩
  | .hbm, ⟨4, _⟩ => ⟨S200, .i32⟩
  | .hbm, ⟨5, _⟩ => ⟨S_, .i32⟩
  | .hbm, ⟨6, _⟩ => ⟨S200, .i32⟩
  | .hbm, ⟨7, _⟩ => ⟨S200, .i32⟩
  | .hbm, ⟨8, _⟩ => ⟨S_, .i32⟩
  | .hbm, ⟨9, _⟩ => ⟨S200, .i32⟩
  | .hbm, ⟨10, _⟩ => ⟨S200, .i32⟩
  | .hbm, ⟨11, _⟩ => ⟨S_, .i32⟩
  | .hbm, ⟨12, _⟩ => ⟨S200, .i32⟩
  | .hbm, ⟨13, _⟩ => ⟨S200, .i1⟩
  | .hbm, ⟨14, _⟩ => ⟨S_, .i32⟩
  | .hbm, ⟨15, _⟩ => ⟨S200, .i32⟩
  | .hbm, ⟨16, _⟩ => ⟨S200, .i32⟩
  | .hbm, ⟨17, _⟩ => ⟨S200, .i32⟩
  | .hbm, ⟨18, _⟩ => ⟨S200x1, .i32⟩
  | .hbm, ⟨19, _⟩ => ⟨S1, .i32⟩
  | .hbm, ⟨20, _⟩ => ⟨S_, .i32⟩
  | .hbm, ⟨21, _⟩ => ⟨S200x1, .i32⟩
  | .hbm, ⟨22, _⟩ => ⟨S200x1, .i1⟩
  | .hbm, ⟨23, _⟩ => ⟨S1x1, .i32⟩
  | .hbm, ⟨24, _⟩ => ⟨S200x1, .i32⟩
  | .hbm, ⟨25, _⟩ => ⟨S200x1, .i1⟩
  | .hbm, ⟨26, _⟩ => ⟨S200x1, .i1⟩
  | .hbm, ⟨27, _⟩ => ⟨S_, .i1⟩
  | .hbm, ⟨28, _⟩ => ⟨S200, .i1⟩
  | .hbm, ⟨29, _⟩ => ⟨S200x32, .f32⟩
  | .hbm, ⟨30, _⟩ => ⟨S200x32, .i1⟩
  | .hbm, ⟨31, _⟩ => ⟨S_, .f32⟩
  | .hbm, ⟨32, _⟩ => ⟨S200x32, .f32⟩
  | .hbm, ⟨33, _⟩ => ⟨S200x32, .f32⟩
  | .hbm, ⟨34, _⟩ => ⟨S4096x200x32, .f32⟩
  | .hbm, ⟨35, _⟩ => ⟨S1x1x32, .f32⟩
  | .hbm, ⟨36, _⟩ => ⟨S4096x200x32, .f32⟩
  | .hbm, ⟨37, _⟩ => ⟨S4096x200x32, .f32⟩
  | .hbm, ⟨38, _⟩ => ⟨S1x200x32, .f32⟩
  | .hbm, ⟨39, _⟩ => ⟨S4096x200x32, .f32⟩
  | .hbm, ⟨40, _⟩ => ⟨S4096x200x32, .f32⟩
  | _, _ => ⟨S4096x200x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Block.lean ====
/- What one run of the kernel's body leaves in the output block: at row `t` of the block, feature `o` and batch
   entry `n`, the product of the transposed weights with the block of `x`, plus the position row of that block
   row. The body's 25 stores are one store at 25 rows, so the equation is proved once, for a row `k`. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe

section Stores

variable {F : FTy → Type} [FloatOps F]

/-- What the body computes for one row: the weights `w` times the row `xs` of `x`, plus the position row `p` put
    down as a column. -/
def slab (w : Vec F S32x32 .f32) (xs : Vec F S1x32x4096 .f32) (p : Vec F S1x32 .f32) : FVec F S1x32x4096 .f32 :=
  shapeCast S1x32x4096
    (addf
      (matmul dot_S32x32_S32x4096_S32x4096_1_0_0_1_n_n none (shapeCast S32x32 w shapeCasts_S32x32_S32x32)
        (shapeCast S32x4096 xs shapeCasts_S1x32x4096_S32x4096) (constant S32x4096 .f32 0x00000000#32))
      (broadcastTo S32x4096 (shapeCast S32x1 (shapeCast S32 p shapeCasts_S1x32_S32) shapeCasts_S32_S32x1)
        broadcasts_S32x1_S32x4096))
    shapeCasts_S32x4096_S1x32x4096

/-- The rectangle of row `k` lies in the block of 25 rows. -/
theorem row_inb (k : Fin 25) : ∀ a, (![k.val, 0, 0] : Fin 3 → Nat) a + S1x32x4096.size a ≤ S25x32x4096.size a := by
  revert k; decide

variable (i : grid0.Coords) (a1 : Memref sig .tc .vmem S25x32x4096 .f32) (h1 : a1.IsWhole)
  (a2 : Memref sig .tc .vmem S200x32 .f32) (h2 : a2.IsWhole) (a3 : Memref sig .tc .vmem S32x32 .f32) (h3 : a3.IsWhole)
  (a4 : Memref sig .tc .vmem S25x32x4096 .f32) (h4 : a4.IsWhole)
  (x0 : Vec F S25x32x4096 .f32) (x1 : Vec F S200x32 .f32) (x2 : Vec F S32x32 .f32)

/-- The body's store at row `k`, with the loads it is computed from. -/
def store (k : Fin 25) : View.Piece (Elt F) S25x32x4096 .f32 :=
  ⟨Rect.unit ![k.val, 0, 0] S1x32x4096.size (row_inb k),
    slab
      (View.readAt (Elt F) a3.view (Rect.unit ![0, 0] S32x32.size inb_S32x32_S32x32_0_0).toLoadRect (h3.unread x2))
      (View.readAt (Elt F) a1.view (Rect.unit (s := S25x32x4096) ![k.val, 0, 0] S1x32x4096.size (row_inb k)).toLoadRect
        (h1.unread x0))
      (View.readAt (Elt F) a2.view
        (Rect.unit (s := S200x32) (k0_off1 i (BitVec.ofNat 32 k.val)) S1x32.size (k0_off1_inb i k)).toLoadRect
        (h2.unread x1))⟩

/-- The body's stores at the rows below `n`, the last one first. -/
def stores : (n : Nat) → n ≤ 25 → List (View.Piece (Elt F) S25x32x4096 .f32)
  | 0, _ => []
  | n + 1, h => store i a1 h1 a2 h2 a3 h3 x0 x1 x2 ⟨n, h⟩ :: stores n (Nat.le_of_succ_le h)

/-- Every one of these stores is the store at some row. -/
theorem mem_stores (p : View.Piece (Elt F) S25x32x4096 .f32) :
    ∀ (n : Nat) (h : n ≤ 25), p ∈ stores i a1 h1 a2 h2 a3 h3 x0 x1 x2 n h →
      ∃ k, p = store i a1 h1 a2 h2 a3 h3 x0 x1 x2 k
  | 0, _, hp => absurd hp List.not_mem_nil
  | n + 1, h, hp => by
    rcases List.mem_cons.mp hp with e | hp'
    · exact ⟨_, e⟩
    · exact mem_stores p n _ hp'

/-- The stores that the run of the body makes are these, at all 25 rows. -/
theorem run_stores (c : Dev nD) :
    (kernelRun0_A c i a1 h1 a2 h2 a3 h3 a4 h4 x0 x1 x2).1 = stores i a1 h1 a2 h2 a3 h3 x0 x1 x2 25 (Nat.le_refl 25) := by
  unfold kernelRun0_A
  dsimp only
  rfl

end Stores

/-- The weights times the block of `x`, plus the position rows of the `q`-th group of 25: what the body leaves at
    block row `t`, feature `o`, batch entry `n`. -/
def value (q : Fin 8) (x0 : Vec Ideal S25x32x4096 .f32) (x1 : Vec Ideal S200x32 .f32) (x2 : Vec Ideal S32x32 .f32) :
    Vec Ideal S25x32x4096 .f32 := fun y =>
  FloatOps.addf (F := Ideal) (φ := .f32) (∑ k : Fin 32, (x2 (ix2 (y 1) k) : EReal) * x0 (ix3 (y 0) k (y 2)))
    (x1 (ix2 ⟨25 * q.val + (y 0).val, by have := q.isLt; have : (y 0).val < 25 := (y 0).isLt; omega⟩ (y 1)))

/-- The row computation read at an index. -/
theorem slab_apply (w : Vec Ideal S32x32 .f32) (xs : Vec Ideal S1x32x4096 .f32) (p : Vec Ideal S1x32 .f32)
    (y : S1x32x4096.Idx) :
    slab w xs p y = FloatOps.addf (F := Ideal) (φ := .f32) (∑ k : Fin 32, (w (ix2 (y 1) k) : EReal) * xs (ix3 0 k (y 2)))
      (p (ix2 0 (y 1))) := by
  pointwise [slab]

/-- The store at row `k` holds, at every index of its row, the block's value there. -/
theorem store_value (i : grid0.Coords) (a1 : Memref sig .tc .vmem S25x32x4096 .f32) (h1 : a1.IsWhole)
    (a2 : Memref sig .tc .vmem S200x32 .f32) (h2 : a2.IsWhole) (a3 : Memref sig .tc .vmem S32x32 .f32) (h3 : a3.IsWhole)
    (x0 : Vec Ideal S25x32x4096 .f32) (x1 : Vec Ideal S200x32 .f32) (x2 : Vec Ideal S32x32 .f32) (k : Fin 25)
    (y : (store i a1 h1 a2 h2 a3 h3 x0 x1 x2 k).1.shape.Idx) :
    (store i a1 h1 a2 h2 a3 h3 x0 x1 x2 k).2 y
      = value (i 0) x0 x1 x2 ((store i a1 h1 a2 h2 a3 h3 x0 x1 x2 k).1.emb y) := by
  have e0 : (store i a1 h1 a2 h2 a3 h3 x0 x1 x2 k).1.emb y 0 = k := Fin.ext (by
    have h : (y 0).val < 1 := (y 0).isLt
    have e : ((store i a1 h1 a2 h2 a3 h3 x0 x1 x2 k).1.emb y 0).val = k.val + 1 * (y 0).val := rfl
    omega)
  have e1 : (store i a1 h1 a2 h2 a3 h3 x0 x1 x2 k).1.emb y 1 = y 1 := Fin.ext (by
    have e : ((store i a1 h1 a2 h2 a3 h3 x0 x1 x2 k).1.emb y 1).val = 0 + 1 * (y 1).val := rfl
    omega)
  have e2 : (store i a1 h1 a2 h2 a3 h3 x0 x1 x2 k).1.emb y 2 = y 2 := Fin.ext (by
    have e : ((store i a1 h1 a2 h2 a3 h3 x0 x1 x2 k).1.emb y 2).val = 0 + 1 * (y 2).val := rfl
    omega)
  have o0 : k0_off1 i (BitVec.ofNat 32 k.val) 0 = 25 * (i 0).val + k.val := congrFun (k0_off1_eq i k) 0
  have o1 : k0_off1 i (BitVec.ofNat 32 k.val) 1 = 0 := congrFun (k0_off1_eq i k) 1
  refine (slab_apply _ _ _ y).trans ?_
  simp only [View.readAt_eq_ld, h1.read_unread, h2.read_unread, h3.read_unread]
  unfold value
  pointwise
  simp only [e0, e1, e2, o0, o1, Nat.zero_add]
  rfl

/-- So the whole block that the body leaves is its value. -/
theorem out_value (c : Dev nD) (i : grid0.Coords) (a1 : Memref sig .tc .vmem S25x32x4096 .f32) (h1 : a1.IsWhole)
    (a2 : Memref sig .tc .vmem S200x32 .f32) (h2 : a2.IsWhole) (a3 : Memref sig .tc .vmem S32x32 .f32) (h3 : a3.IsWhole)
    (a4 : Memref sig .tc .vmem S25x32x4096 .f32) (h4 : a4.IsWhole)
    (x0 : Vec Ideal S25x32x4096 .f32) (x1 : Vec Ideal S200x32 .f32) (x2 : Vec Ideal S32x32 .f32) :
    out0_A_3 c i a1 h1 a2 h2 a3 h3 a4 h4 x0 x1 x2 = value (i 0) x0 x1 x2 := by
  funext y
  unfold out0_A_3
  refine View.read_writes_apply_of_pieces _ _ _ _ (fun p hp x => ?_) y (cover0_A_3 c i a1 h1 a2 h2 a3 h3 a4 h4 x0 x1 x2 y)
  rw [run_stores] at hp
  obtain ⟨k, rfl⟩ := mem_stores i a1 h1 a2 h2 a3 h3 x0 x1 x2 p 25 _ hp
  exact store_value i a1 h1 a2 h2 a3 h3 x0 x1 x2 k x

end Cert.KernelIdeal.Block

end
-- ==== Proof.Region.lean ====
/- What the kernel program's arrays hold: the operands the region is given, the region's result assembled from its
   eight blocks, and the program's result, the region's array transposed back. -/
module

public import proofs.«01_k».proof.Proof.Block

@[expose] public section

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument `x` on core `c`. -/
abbrev argX (c : Dev nD) : Vec Ideal S4096x200x32 .f32 := m ((c : Thread nD τ).loc main_arg0)
/-- The argument that is the position table. -/
abbrev argPos (c : Dev nD) : Vec Ideal S200x32 .f32 := m ((c : Thread nD τ).loc main_arg1)
/-- The argument that is the weights. -/
abbrev argW (c : Dev nD) : Vec Ideal S32x32 .f32 := m ((c : Thread nD τ).loc main_arg2)
/-- The argument that is the bias. -/
abbrev argB (c : Dev nD) : Vec Ideal S32 .f32 := m ((c : Thread nD τ).loc main_arg3)

/-- The region's first operand is `x` with the batch axis last. -/
theorem V_x (c : Dev nD) : V m c main_v0
    = transpose S200x32x4096 [1, 2, 0] (argX m c) transposes_S4096x200x32_S200x32x4096_1_2_0 := by
  show StableHlo.after _ _ (Proc.devRef .tc main_v0) = _
  after_results
  all_goals rfl

/-- Its second operand is the position table with the bias added to every row. -/
theorem V_pos (c : Dev nD) : (V m c main_v3 : Vec Ideal S200x32 .f32)
    = addf (F := Ideal) (φ := .f32) (argPos m c) (broadcastInDim S200x32 ![0, 1] bcast_S1x32_S200x32_0_1
        (broadcastInDim S1x32 ![1] bcast_S32_S1x32_1 (argB m c))) := by
  show StableHlo.after _ _ (Proc.devRef .tc main_v3) = _
  after_results
  all_goals rfl

/-- Its third operand is the transposed weights. -/
theorem V_w (c : Dev nD) : V m c main_v4
    = transpose S32x32 [1, 0] (argW m c) transposes_S32x32_S32x32_1_0 := by
  show StableHlo.after _ _ (Proc.devRef .tc main_v4) = _
  after_results
  all_goals rfl

/-- The region's result, whole: position `l`, feature `o`, batch entry `n`. -/
def region (c : Dev nD) : Vec Ideal S200x32x4096 .f32 := fun j =>
  FloatOps.addf (F := Ideal) (φ := .f32)
    (∑ k : Fin 32, (argW m c (ix2 k (j 1)) : EReal) * argX m c (ix3 (j 2) (j 0) k))
    (FloatOps.addf (F := Ideal) (φ := .f32) (argPos m c (ix2 (j 0) (j 1))) (argB m c (ix1 (j 1))))

/-- A grid point's one coordinate is its number. -/
theorem coord_eq : ∀ t : Fin cfg0.N, (grid0.coords t 0).val = t.val :=
  (by decide +kernel : ∀ t : Fin grid0.N, (grid0.coords t 0).val = t.val)
/-- The window on `x` is at the point's own block of rows. -/
theorem index_x : ∀ t : Fin cfg0.N, win0_0.index t = ![t.val, 0, 0] :=
  (by decide +kernel : ∀ t : Fin grid0.N, win0_0.index t = ![t.val, 0, 0])
/-- The window on the position table stays at its only block. -/
theorem index_pos : ∀ t : Fin cfg0.N, win0_1.index t = ![0, 0] :=
  (by decide +kernel : ∀ t : Fin grid0.N, win0_1.index t = ![0, 0])
/-- The window on the weights stays at its only block. -/
theorem index_w : ∀ t : Fin cfg0.N, win0_2.index t = ![0, 0] :=
  (by decide +kernel : ∀ t : Fin grid0.N, win0_2.index t = ![0, 0])
/-- The window on the result is at the point's own block of rows. -/
theorem index_out : ∀ t : Fin cfg0.N, win0_3.index t = ![t.val, 0, 0] :=
  (by decide +kernel : ∀ t : Fin grid0.N, win0_3.index t = ![t.val, 0, 0])

/-- Position `25 t + a`, the one that row `a` of block `t` stands for. -/
abbrev row (t : Fin cfg0.N) (a : Fin 25) : Fin 200 :=
  ⟨25 * t.val + a.val, by have h : t.val < 8 := t.isLt; have := a.isLt; omega⟩

/-- The block of `x` at point `t`, read at an index. -/
theorem blk_x (c : Dev nD) (t : Fin cfg0.N) (a : Fin 25) (k : Fin 32) (n : Fin 4096) :
    iblk m c 0 t (ix3 a k n) = argX m c (ix3 n (row t a) k) := by
  have e : (win0_0.blk t).view.emb (ix3 a k n) = (ix3 (row t a) k n : S200x32x4096.Idx) := by
    blk_ext [index_x t]
  blk_simp [iblk]
  rw [e]
  refine (congrFun (V_x m c) _).trans ?_
  pointwise

/-- The block of the position table, read at an index: the table's element plus the bias. -/
theorem blk_pos (c : Dev nD) (t : Fin cfg0.N) (l : Fin 200) (o : Fin 32) :
    iblk m c 1 t (ix2 l o)
      = FloatOps.addf (F := Ideal) (φ := .f32) (argPos m c (ix2 l o)) (argB m c (ix1 o)) := by
  have e : (win0_1.blk t).view.emb (ix2 l o) = (ix2 l o : S200x32.Idx) := by
    blk_ext [index_pos t]
  blk_simp [iblk]
  rw [e]
  refine (congrFun (V_pos m c) _).trans ?_
  pointwise

/-- The block of the weights, read at an index: the weights with input and output exchanged. -/
theorem blk_w (c : Dev nD) (t : Fin cfg0.N) (o k : Fin 32) : iblk m c 2 t (ix2 o k) = argW m c (ix2 k o) := by
  have e : (win0_2.blk t).view.emb (ix2 o k) = (ix2 o k : S32x32.Idx) := by
    blk_ext [index_w t]
  blk_simp [iblk]
  rw [e]
  refine (congrFun (V_w m c) _).trans ?_
  pointwise

/-- The eight blocks make up the region's result. -/
theorem arr_out (c : Dev nD) : (dats m 0 c).arrAt 3 cfg0.N = region m c := by
  refine (dats m 0 c).arrAt_eq_of_covers 3 _ (by decide +kernel) fun t hf y => ?_
  blk_simp
  obtain ⟨a, o, n, rfl⟩ : ∃ (a : Fin 25) (o : Fin 32) (n : Fin 4096), y = ix3 a o n := ⟨y 0, y 1, y 2, eq_ix3 y⟩
  have e : (win0_3.blk t).view.emb (ix3 a o n) = (ix3 (row t a) o n : S200x32x4096.Idx) := by
    blk_ext [index_out t]
  rw [after0_3, e]
  unfold outsAt0
  rw [Block.out_value]
  unfold Block.value region
  have hrow : ∀ h, (⟨25 * (grid0.coords t 0).val + a.val, h⟩ : Fin 200) = row t a := fun h =>
    Fin.ext (congrArg (25 * · + a.val) (coord_eq t))
  exact congrArg₂ _
    (Finset.sum_congr rfl fun k _ => congrArg₂ _ (blk_w m c t o k) (blk_x m c t a k n))
    ((congrArg (fun l => iblk m c 1 t (ix2 l o)) (hrow _)).trans (blk_pos m c t (row t a) o))

/-- The program's result is the region's array with the batch axis put first again. -/
theorem tail_eq (c : Dev nD) : Pipeline.afterTail₀ cfgs (dats m) 0 (V0 m) [hostOps1] c main_v6
    = transpose S4096x200x32 [2, 0, 1] (region m c) transposes_S200x32x4096_S4096x200x32_2_0_1 := by
  unfold Pipeline.afterTail₀
  simp only [hostOps1, List.flatten_cons, List.flatten_nil, List.append_nil]
  after_results
  refine congrArg (transpose S4096x200x32 [2, 0, 1] · transposes_S200x32x4096_S4096x200x32_2_0_1) ?_
  exact (Pipeline.withArrays_arr (cfgs 0).spec (by decide) c _ _ 3).trans (arr_out m c)

end Cert.KernelIdeal.Region

end
-- ==== Proof.Reference.lean ====
/- What the reference program computes: `x · W`, plus the bias, plus the position table's rows taken at the
   positions 0 to 199, which are the rows in order. -/
module

public import proofs.«01_k».proof.Proof.Gen.ReferenceIdeal.Run
public import Idealize.ShloMosaic.Lib.Pointwise
public import Idealize.ShloMosaic.Lib.Routing.Ops

@[expose] public section

set_option maxRecDepth 16384

noncomputable section

namespace Cert.ReferenceIdeal.Meaning

open Cert.ReferenceIdeal Cert.ReferenceIdeal.Gen Idealize.ShloMosaic Idealize.ShloMosaic.TcCoe

/-- The positions, `0 + 1 · l` for `l` below 200, a negative one counted from the end. -/
def positions : IVec S200 32 :=
  let p : IVec S200 32 := addi (broadcastInDim S200 ![] bcast_S_S200 (constantI S_ 32 0#32))
    (muli (broadcastInDim S200 ![] bcast_S_S200 (constantI S_ 32 1#32)) (iotaInDim S200 32 0))
  select (cmpi .slt p (broadcastInDim S200 ![] bcast_S_S200 (constantI S_ 32 0#32)))
    (addi p (broadcastInDim S200 ![] bcast_S_S200 (constantI S_ 32 200#32))) p

/-- The positions as a column, the form in which rows are taken at them. -/
def starts : IVec S200x1 32 := broadcastInDim S200x1 ![0] bcast_S200_S200x1_0 positions

/-- Whether each position names a row of the table: is at least 0 and at most 199. -/
def inRange : IVec S200 1 :=
  Host.reduce IntOp.andi
    (andi (cmpi .sge starts (broadcastInDim S200x1 ![] bcast_S_S200x1 (constantI S_ 32 0#32)))
      (cmpi .sle starts (broadcastInDim S200x1 ![0, 1] bcast_S1x1_S200x1_0_1
        (broadcastInDim S1x1 ![1] bcast_S1_S1x1_1 (constantI S1 32 199#32)))))
    (constantI S_ 1 1#1) reducesTo_S200x1_S200_d1 h_S_

/-- The rows of the table at the positions, and not-a-number where a position names no row. -/
def taken (pos : FVec Ideal S200x32 .f32) : FVec Ideal S200x32 .f32 :=
  select (broadcastInDim S200x32 ![0] bcast_S200_S200x32_0 inRange)
    (Host.gather gather_S200x32_S200x1_S200x32_1_0_n_n_0_1_132 pos starts)
    (broadcastInDim S200x32 ![] bcast_S_S200x32 (constant (F := Ideal) S_ .f32 0x7FC00000#32))

/-- The reference's result on arguments `x`, `pos`, `w` and `b`. -/
def result (x : FVec Ideal S4096x200x32 .f32) (pos : FVec Ideal S200x32 .f32) (w : FVec Ideal S32x32 .f32)
    (b : FVec Ideal S32 .f32) : FVec Ideal S4096x200x32 .f32 :=
  addf
    (addf (Host.dotGeneral dot_S4096x200x32_S32x32_S4096x200x32_2_0_01_1_n_n none x w)
      (broadcastInDim S4096x200x32 ![0, 1, 2] bcast_S1x1x32_S4096x200x32_0_1_2
        (broadcastInDim S1x1x32 ![2] bcast_S32_S1x1x32_2 b)))
    (broadcastInDim S4096x200x32 ![0, 1, 2] bcast_S1x200x32_S4096x200x32_0_1_2
      (broadcastInDim S1x200x32 ![1, 2] bcast_S200x32_S1x200x32_1_2 (taken pos)))

/-- The position at place `l` is `l`. -/
theorem positions_apply (l : Fin 200) : positions (ix1 l) = BitVec.ofNat 32 l.val := by
  pointwise [positions]
  revert l
  decide +kernel

/-- Every position names a row. -/
theorem inRange_apply (l : Fin 200) : inRange (ix1 l) = 1#1 := by
  pointwise [inRange, starts]
  simp only [positions_apply]
  revert l
  decide +kernel

/-- So what is taken is the table itself. -/
theorem taken_eq (pos : FVec Ideal S200x32 .f32) (l : Fin 200) (o : Fin 32) : taken pos (ix2 l o) = pos (ix2 l o) := by
  have hs : starts (ix2 l 0) = BitVec.ofNat 32 l.val := by
    pointwise [starts]
    exact positions_apply l
  have hg : Host.gather gather_S200x32_S200x1_S200x32_1_0_n_n_0_1_132 pos starts (ix2 l o) = pos (ix2 l o) :=
    Routing.gather_row gather_S200x32_S200x1_S200x32_1_0_n_n_0_1_132 rfl rfl rfl rfl rfl pos starts l o l hs (by decide)
  pointwise [taken]
  rw [inRange_apply, hg]
  rfl

/-- The reference's result at batch entry `n`, position `l` and feature `o`. -/
theorem result_apply (x : FVec Ideal S4096x200x32 .f32) (pos : FVec Ideal S200x32 .f32) (w : FVec Ideal S32x32 .f32)
    (b : FVec Ideal S32 .f32) (n : Fin 4096) (l : Fin 200) (o : Fin 32) :
    result x pos w b (ix3 n l o)
      = FloatOps.addf (F := Ideal) (φ := .f32)
          (FloatOps.addf (F := Ideal) (φ := .f32) (∑ k : Fin 32, (x (ix3 n l k) : EReal) * w (ix2 k o)) (b (ix1 o)))
          (pos (ix2 l o)) := by
  pointwise [result]
  rw [taken_eq]

end Cert.ReferenceIdeal.Meaning

end
-- ==== Proof.Equation.lean ====
/- The equation of the two results: at batch entry `n`, position `l` and feature `o`, the kernel program holds
   `∑ W·x + (pos + b)` and the reference `(∑ x·W + b) + pos`. -/
module

public import proofs.«01_k».proof.Proof.Region
public import proofs.«01_k».proof.Proof.Reference

@[expose] public section

noncomputable section

namespace Cert.Equation

open Idealize.ShloMosaic Idealize.ShloMosaic.TcCoe

/-- Sum, then `pos + b`, is the sum with `b` and then `pos` added, the factors of each product exchanged. -/
theorem sum_add (f g : Fin 32 → EReal) (p b : EReal) :
    (∑ k, g k * f k) + (p + b) = ((∑ k, f k * g k) + b) + p := by
  rw [add_comm p b, ← add_assoc]
  simp only [mul_comm]

/-- The kernel program's result, the region's array with the batch axis put first, is the reference's on the same
    arguments. -/
theorem results_eq (m : (ℓ : Loc KernelIdeal.nD KernelIdeal.τ KernelIdeal.sig) → Buf (Elt Ideal) ℓ)
    (c : Dev KernelIdeal.nD) :
    transpose KernelIdeal.S4096x200x32 [2, 0, 1] (KernelIdeal.Region.region m c)
        KernelIdeal.Gen.transposes_S200x32x4096_S4096x200x32_2_0_1
      = ReferenceIdeal.Meaning.result (KernelIdeal.Region.argX m c) (KernelIdeal.Region.argPos m c)
          (KernelIdeal.Region.argW m c) (KernelIdeal.Region.argB m c) := by
  funext j
  obtain ⟨n, l, o, rfl⟩ : ∃ (n : Fin 4096) (l : Fin 200) (o : Fin 32), j = ix3 n l o := ⟨j 0, j 1, j 2, eq_ix3 j⟩
  rw [ReferenceIdeal.Meaning.result_apply]
  pointwise [KernelIdeal.Region.region]
  exact sum_add (fun k => KernelIdeal.Region.argX m c (ix3 n l k)) (fun k => KernelIdeal.Region.argW m c (ix2 k o)) _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel program's run: its result is the reference's on the same arguments, which it leaves as they were. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      fun r => ∀ c : Dev KernelIdeal.nD,
        r.2.mem ((c.tc : Thread KernelIdeal.nD KernelIdeal.τ).loc KernelIdeal.main_v6)
            = ReferenceIdeal.Meaning.result (KernelIdeal.Region.argX m c) (KernelIdeal.Region.argPos m c)
                (KernelIdeal.Region.argW m c) (KernelIdeal.Region.argB m c)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3) := by
  refine (θ_run _ _ _).mono (fun r h c => ⟨?_, h.2 c⟩)
    (θ_run_and (KernelIdeal.Gen.run_main m g) (KernelIdeal.Gen.unchanged m g))
  exact ((h.1 c).2 KernelIdeal.main_v6 (Pipeline.mem_restRefs_of _ (by decide) (by decide))).trans
    ((KernelIdeal.Region.tail_eq m c).trans (Equation.results_eq m c))

/-- The two programs, from memories with equal arguments, end with equal results. -/
theorem equal_results : algebraic_KernelIdeal_ReferenceIdeal (hKernelIdeal := KernelIdeal.Gen.facts)
    (hReferenceIdeal := ReferenceIdeal.Gen.facts) := by
  intro m g m' g' _ hagree
  refine ⟨_, kernel_run m g, ?_⟩
  refine (θ_run _ _ _).mono (fun r h c => ?_) (ReferenceIdeal.Value.run m' g')
  obtain ⟨hv, hargs⟩ := h c
  obtain ⟨e0, e1, e2, e3⟩ := hagree c
  refine ⟨hv.trans ?_, hargs⟩
  show ReferenceIdeal.Meaning.result _ _ _ _ = _
  exact congr (congr (congrArg₂ ReferenceIdeal.Meaning.result e0 e1) e2) e3

/-- The reference program runs, and leaves its arguments and its semaphores as they were. -/
theorem reference_frame : quiescent_ReferenceIdeal (hReferenceIdeal := ReferenceIdeal.Gen.facts) := by
  intro m g _
  exact (θ_run _ _ _).mono (fun r h => ⟨fun c => (h c).2, sem_eq_zero_of_no_sems (by decide) r.2⟩)
    (ReferenceIdeal.Value.run m g)

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end
